-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_in_blocks [hPre_batch_in_blocks : Cert.Pre_batch_in_blocks.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_batch_in_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_batch_in_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_batch_in_blocks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_in_blocks [hPre_batch_in_blocks : Cert.Pre_batch_in_blocks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_in_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_batch_in_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_batch_in_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_batch_in_blocks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_batch_in_blocks [hKernelIdeal : Cert.KernelIdeal.Facts] [hPre_batch_in_blocks : Cert.Pre_batch_in_blocks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_in_blocks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_batch_in_blocks [hReferenceIdeal : Cert.ReferenceIdeal.Facts] [hPre_batch_in_blocks : Cert.Pre_batch_in_blocks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_in_blocks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_batch_in_blocks [hKernelIdeal : Cert.KernelIdeal.Facts] [hReferenceIdeal : Cert.ReferenceIdeal.Facts] [hPre_batch_in_blocks : Cert.Pre_batch_in_blocks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_in_blocks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_batch_in_blocks : Cert.Pre_batch_in_blocks.Facts),
    quiescent_Kernel (hKernel := hKernel)
    ∧ quiescent_KernelIdeal (hKernelIdeal := hKernelIdeal)
    ∧ quiescent_KernelIdeal_pre_batch_in_blocks (hKernelIdeal := hKernelIdeal) (hPre_batch_in_blocks := hPre_batch_in_blocks)
    ∧ quiescent_ReferenceIdeal (hReferenceIdeal := hReferenceIdeal)
    ∧ quiescent_ReferenceIdeal_pre_batch_in_blocks (hReferenceIdeal := hReferenceIdeal) (hPre_batch_in_blocks := hPre_batch_in_blocks)
    ∧ preserves_Kernel_KernelIdeal
    ∧ algebraic_KernelIdeal_ReferenceIdeal_pre_batch_in_blocks (hKernelIdeal := hKernelIdeal) (hReferenceIdeal := hReferenceIdeal) (hPre_batch_in_blocks := hPre_batch_in_blocks)
-- ==== Pre_batch_in_blocks.lean ====
abbrev S131072x3 : Shape := ⟨2, ![131072, 3]⟩
abbrev S131072 : Shape := ⟨1, ![131072]⟩
abbrev S128 : Shape := ⟨1, ![128]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S4096x32 : Shape := ⟨2, ![4096, 32]⟩
abbrev S_ : Shape := ⟨0, ![]⟩

class Facts : Prop where
  shapeCasts_S131072_S4096x32 : S131072.ShapeCasts S4096x32
  bcast_S_S131072x3 : S_.BroadcastsInDim S131072x3 (![] : Fin 0 → Fin S131072x3.rank)
  bcast_S_S64x1 : S_.BroadcastsInDim S64x1 (![] : Fin 0 → Fin S64x1.rank)
  bcast_S_S1 : S_.BroadcastsInDim S1 (![] : Fin 0 → Fin S1.rank)

variable [Facts]

def fn {F : FTy → Type} [FloatOps F] (main_arg0 : FVec F S131072x3 .f32) (main_arg1 : FVec F S131072x3 .f32) (main_arg2 : IVec S131072 32) (main_arg3 : IVec S128 32) (main_arg4 : FVec F S3x64 .f32) (main_arg5 : FVec F S64 .f32) (main_arg6 : FVec F S64x64 .f32) (main_arg7 : FVec F S64 .f32) (main_arg8 : FVec F S64x1 .f32) (main_arg9 : FVec F S1 .f32) : IVec S4096x32 1 × IVec S131072x3 1 × IVec S64x1 1 × IVec S1 1 :=
  let main_v0 : IVec S4096x32 32 := shapeCast S4096x32 main_arg2 shapeCasts_S131072_S4096x32
  let main_v1 : IVec S4096x32 32 := iotaInDim S4096x32 32 0
  let main_v2 : IVec S4096x32 1 := cmpi .eq main_v0 main_v1
  let main_v3 : FVec F S131072x3 .f32 := Host.absf main_arg1
  let main_cst : FVec F S_ .f32 := constant S_ .f32 0x7F800000#32
  let main_v4 : FVec F S131072x3 .f32 := broadcastInDim S131072x3 ![] bcast_S_S131072x3 main_cst
  let main_v5 : IVec S131072x3 1 := cmpf .olt main_v3 main_v4
  let main_v6 : FVec F S64x1 .f32 := Host.absf main_arg8
  let main_cst_0 : FVec F S_ .f32 := constant S_ .f32 0x7F800000#32
  let main_v7 : FVec F S64x1 .f32 := broadcastInDim S64x1 ![] bcast_S_S64x1 main_cst_0
  let main_v8 : IVec S64x1 1 := cmpf .olt main_v6 main_v7
  let main_cst_1 : FVec F S_ .f32 := constant S_ .f32 0x7F800000#32
  let main_v9 : FVec F S1 .f32 := broadcastInDim S1 ![] bcast_S_S1 main_cst_1
  let main_v10 : IVec S1 1 := cmpf .olt main_arg9 main_v9
  (main_v2, main_v5, main_v8, main_v10)
-- ==== Kernel.lean ====
abbrev S131072x3 : Shape := ⟨2, ![131072, 3]⟩
abbrev S131072 : Shape := ⟨1, ![131072]⟩
abbrev S128 : Shape := ⟨1, ![128]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S3x131072 : Shape := ⟨2, ![3, 131072]⟩
abbrev S64x3 : Shape := ⟨2, ![64, 3]⟩
abbrev S1x1 : Shape := ⟨2, ![1, 1]⟩
abbrev S3x65536 : Shape := ⟨2, ![3, 65536]⟩
abbrev S64x65536 : Shape := ⟨2, ![64, 65536]⟩
abbrev S1x65536 : Shape := ⟨2, ![1, 65536]⟩
abbrev S65536 : Shape := ⟨1, ![65536]⟩
abbrev S2x65536 : Shape := ⟨2, ![2, 65536]⟩
abbrev S128x1024 : Shape := ⟨2, ![128, 1024]⟩
abbrev S1024x32 : Shape := ⟨2, ![1024, 32]⟩
abbrev S128x32 : Shape := ⟨2, ![128, 32]⟩
abbrev S64x32 : Shape := ⟨2, ![64, 32]⟩
abbrev S1x64x1 : Shape := ⟨3, ![1, 64, 1]⟩
abbrev S1x1x1 : Shape := ⟨3, ![1, 1, 1]⟩
abbrev S_ : Shape := ⟨0, ![]⟩

abbrev nBuf : Space → Nat
  | .hbm => 19
  | .vmem => 11
  | .smem => 0
  | _ => 0

abbrev bufTy : (tb : Table) → Fin (tcTables nBuf tb) → BufTy
  | .hbm, ⟨0, _⟩ => ⟨S131072x3, .f32⟩
  | .hbm, ⟨1, _⟩ => ⟨S131072x3, .f32⟩
  | .hbm, ⟨2, _⟩ => ⟨S131072, .i32⟩
  | .hbm, ⟨3, _⟩ => ⟨S128, .i32⟩
  | .hbm, ⟨4, _⟩ => ⟨S3x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S3x131072, .f32⟩
  | .hbm, ⟨11, _⟩ => ⟨S3x131072, .f32⟩
  | .hbm, ⟨12, _⟩ => ⟨S64x3, .f32⟩
  | .hbm, ⟨13, _⟩ => ⟨S64x1, .f32⟩
  | .hbm, ⟨14, _⟩ => ⟨S64x64, .f32⟩
  | .hbm, ⟨15, _⟩ => ⟨S64x1, .f32⟩
  | .hbm, ⟨16, _⟩ => ⟨S1x1, .f32⟩
  | .hbm, ⟨17, _⟩ => ⟨S1x1, .f32⟩
  | .hbm, ⟨18, _⟩ => ⟨S_, .f32⟩
  | .local _ .vmem, ⟨0, _⟩ => ⟨S3x65536, .f32⟩
  | .local _ .vmem, ⟨1, _⟩ => ⟨S3x65536, .f32⟩
  | .local _ .vmem, ⟨2, _⟩ => ⟨S3x65536, .f32⟩
  | .local _ .vmem, ⟨3, _⟩ => ⟨S3x65536, .f32⟩
  | .local _ .vmem, ⟨4, _⟩ => ⟨S64x3, .f32⟩
  | .local _ .vmem, ⟨5, _⟩ => ⟨S64x1, .f32⟩
  | .local _ .vmem, ⟨6, _⟩ => ⟨S64x64, .f32⟩
  | .local _ .vmem, ⟨7, _⟩ => ⟨S64x1, .f32⟩
  | .local _ .vmem, ⟨8, _⟩ => ⟨S64x1, .f32⟩
  | .local _ .vmem, ⟨9, _⟩ => ⟨S1x1, .f32⟩
  | .local _ .vmem, ⟨10, _⟩ => ⟨S1x1, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32_29 : BitVec 32 := 0#32
  let v84 : BitVec 1 := Scalar.cmpi .eq arg0 c0_i32_29
  let v85 : BitVec 32 := Scalar.extui v84
  let c0_i32_30 : BitVec 32 := 0#32
  let v86 : BitVec 1 := Scalar.cmpi .ne v85 c0_i32_30
  v86

def k0_cond2 (i : grid0.Coords) : BitVec 1 :=
  let arg0 : BitVec 32 := BitVec.ofNat 32 (i 0).val
  let c0_i32_31 : BitVec 32 := 0#32
  let v87 : BitVec 1 := Scalar.cmpi .sgt arg0 c0_i32_31
  let v88 : BitVec 32 := Scalar.extui v87
  let c0_i32_32 : BitVec 32 := 0#32
  let v89 : BitVec 1 := Scalar.cmpi .ne v88 c0_i32_32
  v89

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S131072x3 : Shape := ⟨2, ![131072, 3]⟩
abbrev S131072 : Shape := ⟨1, ![131072]⟩
abbrev S128 : Shape := ⟨1, ![128]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S131072x64 : Shape := ⟨2, ![131072, 64]⟩
abbrev S1x64 : Shape := ⟨2, ![1, 64]⟩
abbrev S131072x1 : Shape := ⟨2, ![131072, 1]⟩
abbrev S1x1 : Shape := ⟨2, ![1, 1]⟩
abbrev S_ : Shape := ⟨0, ![]⟩
abbrev S4096 : Shape := ⟨1, ![4096]⟩
abbrev S128x32 : Shape := ⟨2, ![128, 32]⟩
abbrev S128x1 : Shape := ⟨2, ![128, 1]⟩

abbrev nBuf : Space → Nat
  | .hbm => 69
  | .vmem => 0
  | .smem => 0
  | _ => 0

abbrev bufTy : (tb : Table) → Fin (tcTables nBuf tb) → BufTy
  | .hbm, ⟨0, _⟩ => ⟨S131072x3, .f32⟩
  | .hbm, ⟨1, _⟩ => ⟨S131072x3, .f32⟩
  | .hbm, ⟨2, _⟩ => ⟨S131072, .i32⟩
  | .hbm, ⟨3, _⟩ => ⟨S128, .i32⟩
  | .hbm, ⟨4, _⟩ => ⟨S3x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S131072x64, .f32⟩
  | .hbm, ⟨11, _⟩ => ⟨S1x64, .f32⟩
  | .hbm, ⟨12, _⟩ => ⟨S131072x64, .f32⟩
  | .hbm, ⟨13, _⟩ => ⟨S131072x64, .f32⟩
  | .hbm, ⟨14, _⟩ => ⟨S131072x64, .f32⟩
  | .hbm, ⟨15, _⟩ => ⟨S131072x64, .f32⟩
  | .hbm, ⟨16, _⟩ => ⟨S1x64, .f32⟩
  | .hbm, ⟨17, _⟩ => ⟨S131072x64, .f32⟩
  | .hbm, ⟨18, _⟩ => ⟨S131072x64, .f32⟩
  | .hbm, ⟨19, _⟩ => ⟨S131072x64, .f32⟩
  | .hbm, ⟨20, _⟩ => ⟨S131072x1, .f32⟩
  | .hbm, ⟨21, _⟩ => ⟨S1x1, .f32⟩
  | .hbm, ⟨22, _⟩ => ⟨S131072x1, .f32⟩
  | .hbm, ⟨23, _⟩ => ⟨S131072x1, .f32⟩
  | .hbm, ⟨24, _⟩ => ⟨S131072, .f32⟩
  | .hbm, ⟨25, _⟩ => ⟨S_, .f32⟩
  | .hbm, ⟨26, _⟩ => ⟨S4096, .f32⟩
  | .hbm, ⟨27, _⟩ => ⟨S131072x1, .i32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S131072x3, .f32⟩
  | .hbm, ⟨33, _⟩ => ⟨S_, .f32⟩
  | .hbm, ⟨34, _⟩ => ⟨S131072, .f32⟩
  | .hbm, ⟨35, _⟩ => ⟨S_, .f32⟩
  | .hbm, ⟨36, _⟩ => ⟨S4096, .f32⟩
  | .hbm, ⟨37, _⟩ => ⟨S131072x1, .i32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S128x32, .f32⟩
  | .hbm, ⟨43, _⟩ => ⟨S_, .f32⟩
  | .hbm, ⟨44, _⟩ => ⟨S128, .f32⟩
  | .hbm, ⟨45, _⟩ => ⟨S128x1, .f32⟩
  | .hbm, ⟨46, _⟩ => ⟨S128x1, .f32⟩
  | .hbm, ⟨47, _⟩ => ⟨S_, .f32⟩
  | .hbm, ⟨48, _⟩ => ⟨S128x1, .f32⟩
  | .hbm, ⟨49, _⟩ => ⟨S128x1, .i1⟩
  | .hbm, ⟨50, _⟩ => ⟨S_, .f32⟩
  | .hbm, ⟨51, _⟩ => ⟨S_, .f32⟩
  | .hbm, ⟨52, _⟩ => ⟨S128x1, .f32⟩
  | .hbm, ⟨53, _⟩ => ⟨S128x1, .f32⟩
  | .hbm, ⟨54, _⟩ => ⟨S128x32, .f32⟩
  | .hbm, ⟨55, _⟩ => ⟨S128x32, .f32⟩
  | .hbm, ⟨56, _⟩ => ⟨S128x32, .f32⟩
  | .hbm, ⟨57, _⟩ => ⟨S_, .f32⟩
  | .hbm, ⟨58, _⟩ => ⟨S128, .f32⟩
  | .hbm, ⟨59, _⟩ => ⟨S128x1, .f32⟩
  | .hbm, ⟨60, _⟩ => ⟨S128x1, .f32⟩
  | .hbm, ⟨61, _⟩ => ⟨S128x1, .f32⟩
  | .hbm, ⟨62, _⟩ => ⟨S128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_call0_v0 : Ref sig .tc := ⟨.hbm, 51, rfl⟩
abbrev main_call0_v1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== Proof.Spec.lean ====
/-
  The loss as a formula over the extended reals: the energy network of one atom, the squared speed of one atom, the
  weight of one configuration of 32 atoms, the log-sum-exp over the 32 configurations of one reaction, and the mean over
  the 128 reactions. Both programs are shown to compute this formula; nothing here names a program.
-/
module

public import Idealize.ShloMosaic.PureOps.Ideal
public import Idealize.ShloMosaic.Lib.Pointwise

@[expose] public section

noncomputable section

namespace Cert.Loss

open Idealize.ShloMosaic

/-- The weights of the energy network: two hidden layers of 64 units on three coordinates, one output. -/
structure Net where
  W1 : Fin 3 → Fin 64 → EReal
  b1 : Fin 64 → EReal
  W2 : Fin 64 → Fin 64 → EReal
  b2 : Fin 64 → EReal
  W3 : Fin 64 → EReal
  b3 : EReal

/-- Unit `j` of the first hidden layer at the position `x`. -/
def Net.hid1 (p : Net) (x : Fin 3 → EReal) (j : Fin 64) : EReal := Ideal.tanh (∑ d, p.W1 d j * x d + p.b1 j)

/-- Unit `k` of the second hidden layer at the position `x`. -/
def Net.hid2 (p : Net) (x : Fin 3 → EReal) (k : Fin 64) : EReal := Ideal.tanh (∑ j, p.W2 j k * p.hid1 x j + p.b2 k)

/-- The energy of an atom at the position `x`. -/
def Net.energy (p : Net) (x : Fin 3 → EReal) : EReal := ∑ k, p.W3 k * p.hid2 x k + p.b3

/-- The squared speed of an atom of velocity `v`. -/
def speedSq (v : Fin 3 → EReal) : EReal := ∑ d, v d * v d

/-- Atom `a` of configuration `c` of reaction `r`, in the order of the arrays. -/
def atom (r : Fin 128) (c a : Fin 32) : Fin 131072 := ⟨(r.val * 32 + c.val) * 32 + a.val, by omega⟩

/-- The exponent of configuration `c` of reaction `r`: twenty times the energy of its atoms, plus the logarithm of the
    norm of their velocities. -/
def Net.weight (p : Net) (x v : Fin 131072 → Fin 3 → EReal) (r : Fin 128) (c : Fin 32) : EReal :=
  ((20 : ℝ) : EReal) * ∑ a, p.energy (x (atom r c a)) + Ideal.log (Ideal.sqrt (∑ a, speedSq (v (atom r c a))))

/-- The logarithm of a sum of exponentials, as it is defined. -/
def logSumExp (w : Fin 32 → EReal) : EReal := Ideal.log (∑ c, Ideal.exp (w c))

/-- The loss: the mean over the reactions of the log-sum-exp of their configurations' exponents, over twenty. -/
def Net.loss (p : Net) (x v : Fin 131072 → Fin 3 → EReal) : EReal :=
  Ideal.div (Ideal.div (∑ r, logSumExp (p.weight x v r)) ((128 : ℝ) : EReal)) ((20 : ℝ) : EReal)

/-! ## The same on the programs' arrays -/

/-- The network whose weights are the argument arrays. -/
def net (W1 : FVec Ideal ⟨2, ![3, 64]⟩ .f32) (b1 : FVec Ideal ⟨1, ![64]⟩ .f32) (W2 : FVec Ideal ⟨2, ![64, 64]⟩ .f32)
    (b2 : FVec Ideal ⟨1, ![64]⟩ .f32) (W3 : FVec Ideal ⟨2, ![64, 1]⟩ .f32) (b3 : FVec Ideal ⟨1, ![1]⟩ .f32) : Net where
  W1 d j := W1 (ix2 d j)
  b1 j := b1 (ix1 j)
  W2 j k := W2 (ix2 j k)
  b2 k := b2 (ix1 k)
  W3 k := W3 (ix2 k 0)
  b3 := b3 (ix1 0)

/-- The rows of an array of three coordinates per atom. -/
def rows (x : FVec Ideal ⟨2, ![131072, 3]⟩ .f32) (n : Fin 131072) (d : Fin 3) : EReal := x (ix2 n d)

end Cert.Loss

end
-- ==== Proof.Laws.lean ====
/-
  Laws of the extended reals that the two ways of writing the loss need: which values are real numbers, the logarithm of
  a square root, a log-sum-exp shifted by the maximum, and division of a sum.
-/
module

public import proofs.«01_k».proof.Proof.Spec
public import Idealize.ShloMosaic.Lib.Pointwise

@[expose] public section

noncomputable section

namespace Cert.Loss

open Idealize.ShloMosaic

/-! ## The constants -/

theorem ofBits_20 : Ideal.ofBits .f32 0x41A00000#32 = ((20 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_2560 : Ideal.ofBits .f32 0x45200000#32 = ((2560 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

/-! ## Values that are real numbers -/

/-- The extended real is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.sum {ι : Type} [Fintype ι] {f : ι → EReal} (h : ∀ i, IsReal (f i)) : IsReal (∑ i, f i) := by
  classical
  refine Finset.sum_induction f IsReal (fun _ _ => IsReal.add) ⟨0, rfl⟩ fun i _ => h i

/-- A hyperbolic tangent is real, whatever its argument. -/
theorem isReal_tanh (x : EReal) : IsReal (Ideal.tanh x) := by
  induction x with
  | bot => exact ⟨-1, rfl⟩
  | top => exact ⟨1, rfl⟩
  | coe r => exact ⟨Real.tanh r, rfl⟩

theorem IsReal.lt_top {x : EReal} (h : IsReal x) : x < ⊤ := by
  obtain ⟨a, rfl⟩ := h; exact EReal.coe_lt_top a

/-- A value whose absolute value is below infinity is real. -/
theorem isReal_of_abs_lt {x : EReal} (h : max x (-x) < ⊤) : IsReal x := by
  induction x with
  | bot => simp at h
  | top => simp at h
  | coe r => exact ⟨r, rfl⟩

/-- The energy of an atom is below infinity once the output weights are real and the output bias is below infinity. -/
theorem Net.energy_lt_top (p : Net) (h3 : ∀ k, IsReal (p.W3 k)) (hb : p.b3 < ⊤) (x : Fin 3 → EReal) : p.energy x < ⊤ :=
  EReal.add_lt_top (IsReal.sum fun k => (h3 k).mul (isReal_tanh _)).lt_top.ne hb.ne

/-- A sum of values below infinity is below infinity. -/
theorem sum_lt_top {ι : Type} (s : Finset ι) (f : ι → EReal) (h : ∀ i, f i < ⊤) : ∑ i ∈ s, f i < ⊤ :=
  Finset.sum_induction f (· < ⊤) (fun _ _ ha hb => EReal.add_lt_top ha.ne hb.ne) EReal.zero_lt_top fun i _ => h i

/-- Twenty times a value below infinity is below infinity. -/
theorem twenty_mul_lt_top {x : EReal} (h : x < ⊤) : ((20 : ℝ) : EReal) * x < ⊤ := by
  induction x with
  | bot => rw [EReal.coe_mul_bot_of_pos (by norm_num)]; exact bot_lt_top
  | top => exact absurd h (lt_irrefl _)
  | coe r => rw [← EReal.coe_mul]; exact EReal.coe_lt_top _

/-- The squared speed of a real velocity is real. -/
theorem isReal_speedSq {v : Fin 3 → EReal} (h : ∀ d, IsReal (v d)) : IsReal (speedSq v) :=
  IsReal.sum fun d => (h d).mul (h d)

/-- A squared speed is not negative. -/
theorem speedSq_nonneg {v : Fin 3 → EReal} (h : ∀ d, IsReal (v d)) : 0 ≤ speedSq v :=
  Finset.sum_nonneg fun d _ => by
    obtain ⟨a, ha⟩ := h d
    rw [ha, ← EReal.coe_mul]
    exact_mod_cast mul_self_nonneg a

/-! ## The logarithm -/

theorem log_lt_top {x : EReal} (h : x < ⊤) : Ideal.log x < ⊤ := by
  induction x with
  | bot => exact bot_lt_top
  | top => exact absurd h (lt_irrefl _)
  | coe r =>
    show (if r ≤ 0 then (⊥ : EReal) else (Real.log r : EReal)) < ⊤
    split
    · exact bot_lt_top
    · exact EReal.coe_lt_top _

/-- Half the logarithm of a value that is not negative is the logarithm of its square root. -/
theorem log_sqrt {x : EReal} (h : 0 ≤ x) :
    ((1 / 2 : ℝ) : EReal) * Ideal.log x = Ideal.log (Ideal.sqrt x) := by
  induction x with
  | bot => simp at h
  | top =>
    show ((1 / 2 : ℝ) : EReal) * ⊤ = ⊤
    exact EReal.coe_mul_top_of_pos (by norm_num)
  | coe r =>
    have hr : 0 ≤ r := by exact_mod_cast h
    have hs : Ideal.sqrt (r : EReal) = ((Real.sqrt r : ℝ) : EReal) := if_neg (not_lt.2 hr)
    rw [hs]
    show ((1 / 2 : ℝ) : EReal) * (if r ≤ 0 then (⊥ : EReal) else (Real.log r : EReal))
      = if Real.sqrt r ≤ 0 then (⊥ : EReal) else (Real.log (Real.sqrt r) : EReal)
    by_cases h0 : r ≤ 0
    · have : Real.sqrt r ≤ 0 := (Real.sqrt_eq_zero_of_nonpos h0).le
      rw [if_pos h0, if_pos this]
      exact EReal.coe_mul_bot_of_pos (by norm_num)
    · have : ¬ Real.sqrt r ≤ 0 := not_le.2 (Real.sqrt_pos.2 (not_le.1 h0))
      rw [if_neg h0, if_neg this, ← EReal.coe_mul, Real.log_sqrt hr]
      congr 1; ring

/-! ## The log-sum-exp -/

theorem exp_eq_coe {x : EReal} (h : x < ⊤) : ∃ e : ℝ, 0 ≤ e ∧ Ideal.exp x = (e : EReal) ∧
    ∀ m : ℝ, Ideal.exp (x - (m : EReal)) = ((e * Real.exp (-m) : ℝ) : EReal) := by
  induction x with
  | bot => exact ⟨0, le_rfl, rfl, fun m => by rw [EReal.bot_sub, zero_mul]; rfl⟩
  | top => exact absurd h (lt_irrefl _)
  | coe r =>
    refine ⟨Real.exp r, (Real.exp_pos r).le, rfl, fun m => ?_⟩
    rw [← EReal.coe_sub, ← Real.exp_add]
    rfl

theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- The logarithm of a sum of exponentials shifted by a real number `m`, plus `m`, is the log-sum-exp. -/
theorem log_shift (w : Fin 32 → EReal) (h : ∀ c, w c < ⊤) (m : ℝ) :
    Ideal.log (∑ c, Ideal.exp (w c - (m : EReal))) + (m : EReal) = logSumExp w := by
  choose e he0 he hm using fun c => exp_eq_coe (h c)
  have hs : ∑ c, Ideal.exp (w c - (m : EReal)) = (((∑ c, e c) * Real.exp (-m) : ℝ) : EReal) := by
    rw [Finset.sum_mul, coe_sum]
    exact Finset.sum_congr rfl fun c _ => hm c m
  have ht : ∑ c, Ideal.exp (w c) = ((∑ c, e c : ℝ) : EReal) := by
    rw [coe_sum]
    exact Finset.sum_congr rfl fun c _ => he c
  unfold logSumExp
  rw [hs, ht]
  have h0 : 0 ≤ ∑ c, e c := Finset.sum_nonneg fun c _ => he0 c
  generalize (∑ c, e c) = s at h0
  show (if s * Real.exp (-m) ≤ 0 then (⊥ : EReal) else (Real.log (s * Real.exp (-m)) : EReal)) + (m : EReal)
    = if s ≤ 0 then (⊥ : EReal) else (Real.log s : EReal)
  rcases h0.eq_or_lt with rfl | hp
  · simp
  · rw [if_neg (not_le.2 (mul_pos hp (Real.exp_pos _))), if_neg (not_le.2 hp),
      Real.log_mul hp.ne' (Real.exp_pos _).ne', Real.log_exp, ← EReal.coe_add]
    congr 1; ring

/-- The greatest of the exponents, as both programs compute it: from minus infinity. -/
def top (w : Fin 32 → EReal) : EReal := Finset.univ.fold max ⊥ w

theorem top_lt_top {w : Fin 32 → EReal} (h : ∀ c, w c < ⊤) : top w < ⊤ :=
  (Finset.fold_max_lt _).2 ⟨bot_lt_top, fun c _ => h c⟩

theorem eq_bot_of_top {w : Fin 32 → EReal} (h : top w = ⊥) (c : Fin 32) : w c = ⊥ :=
  le_bot_iff.1 (h ▸ (Finset.le_fold_max _).2 (.inr ⟨c, Finset.mem_univ c, le_rfl⟩))

/-- Exponents that are all minus infinity: so is their log-sum-exp. -/
theorem logSumExp_bot {w : Fin 32 → EReal} (h : ∀ c, w c = ⊥) : logSumExp w = ⊥ := by
  have hs : ∑ c, Ideal.exp (w c) = ((0 : ℝ) : EReal) :=
    Finset.sum_eq_zero fun c _ => by rw [h c]; rfl
  unfold logSumExp
  rw [hs]
  exact if_pos le_rfl

/-- The kernel's way: shifted by the greatest exponent, which may be minus infinity. -/
theorem logSumExp_kernel (w : Fin 32 → EReal) (h : ∀ c, w c < ⊤) :
    top w + Ideal.log (∑ c, Ideal.exp (w c - top w)) = logSumExp w := by
  have ht := top_lt_top h
  rcases eq_or_ne (top w) ⊥ with hm | hm
  · rw [logSumExp_bot (eq_bot_of_top hm), hm]
    exact EReal.bot_add _
  · rw [← EReal.coe_toReal ht.ne hm, add_comm]
    exact log_shift w h _

/-- The reference's way: shifted by the greatest exponent where that is finite, by zero elsewhere. -/
theorem logSumExp_reference (w : Fin 32 → EReal) (h : ∀ c, w c < ⊤) :
    Ideal.log (∑ c, Ideal.exp (w c - if max (top w) (-top w) < ⊤ then top w else 0))
      + (if max (top w) (-top w) < ⊤ then top w else 0) = logSumExp w := by
  split
  · next hf =>
    obtain ⟨m, hm⟩ := isReal_of_abs_lt hf
    rw [hm]; exact log_shift w h m
  · exact log_shift w h 0

/-! ## The exponents are below infinity -/

/-- With real velocities, real output weights and an output bias below infinity, no configuration's exponent is plus
    infinity. -/
theorem Net.weight_lt_top (p : Net) (h3 : ∀ k, IsReal (p.W3 k)) (hb : p.b3 < ⊤) {x v : Fin 131072 → Fin 3 → EReal}
    (hv : ∀ n d, IsReal (v n d)) (r : Fin 128) (c : Fin 32) : p.weight x v r c < ⊤ := by
  have he : ((20 : ℝ) : EReal) * ∑ a, p.energy (x (atom r c a)) < ⊤ :=
    twenty_mul_lt_top (sum_lt_top _ _ fun a => p.energy_lt_top h3 hb _)
  obtain ⟨s, hs⟩ : IsReal (∑ a, speedSq (v (atom r c a))) := IsReal.sum fun a => isReal_speedSq (hv _)
  have hl : Ideal.log (Ideal.sqrt (∑ a, speedSq (v (atom r c a)))) < ⊤ := by
    refine log_lt_top ?_
    rw [hs, Ideal.sqrt_coe]
    split
    · exact bot_lt_top
    · exact EReal.coe_lt_top _
  exact EReal.add_lt_top he.ne hl.ne

/-- The exponent written with half the logarithm of the summed squares in place of the logarithm of their root. -/
theorem Net.weight_half (p : Net) {x v : Fin 131072 → Fin 3 → EReal} (hv : ∀ n d, IsReal (v n d)) (r : Fin 128) (c : Fin 32) :
    ((20 : ℝ) : EReal) * ∑ a, p.energy (x (atom r c a))
      + ((1 / 2 : ℝ) : EReal) * Ideal.log (∑ a, speedSq (v (atom r c a))) = p.weight x v r c := by
  rw [log_sqrt (Finset.sum_nonneg fun a _ => speedSq_nonneg (hv _))]
  rfl

/-! ## Division -/

theorem div_coe (x : EReal) {y : ℝ} (hy : y ≠ 0) : Ideal.div x (y : EReal) = x * ((y⁻¹ : ℝ) : EReal) := by
  unfold Ideal.div
  rw [if_neg (by exact_mod_cast hy), EReal.coe_inv]

/-- Two halves of a sum each divided by 2560 make the whole divided by 128 and by 20. -/
theorem div_parts (a b : EReal) :
    Ideal.div a ((2560 : ℝ) : EReal) + Ideal.div b ((2560 : ℝ) : EReal)
      = Ideal.div (Ideal.div (a + b) ((128 : ℝ) : EReal)) ((20 : ℝ) : EReal) := by
  rw [div_coe _ (by norm_num), div_coe _ (by norm_num), div_coe _ (by norm_num), div_coe _ (by norm_num), mul_assoc,
    ← EReal.coe_mul, ← EReal.right_distrib_of_nonneg_of_ne_top (by exact_mod_cast (by norm_num : (0 : ℝ) ≤ 2560⁻¹)) (EReal.coe_ne_top _)]
  congr 2; norm_num

end Cert.Loss

end
-- ==== Proof.Block.lean ====
/-
  What one grid point of the kernel computes, element by element: the 0/1 matrix that sums 32 neighbouring columns, the
  array of atom energies and squared speeds, and the point's share of the loss.
-/
module

public import proofs.«01_k».proof.Proof.Laws
public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Cert.Loss

/-! ## The 0/1 matrix -/

/-- The floor division by 32 that the kernel spells with signs and remainders, on the row number `l`. -/
def rowWord (l : BitVec 32) : BitVec 32 :=
  Scalar.select
    (IntOp.andi
      (IntOp.cmpi CmpIPredicate.ne
        (IntOp.subi (BitVec.setWidth 32 (IntOp.cmpi CmpIPredicate.sgt l 0#32))
          (BitVec.setWidth 32 (IntOp.cmpi CmpIPredicate.slt l 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector l 32#32) 0#32))
    (IntOp.subi (IntOp.divsi ArithUnit.vector l 32#32) 1#32)
    (IntOp.divsi ArithUnit.vector l 32#32)

theorem rowWord_eq : ∀ l : Fin 1024, rowWord (BitVec.ofNat 32 l.val) = BitVec.ofNat 32 (l.val / 32) := by
  decide +kernel

/-- The comparison of two numbers below 32, as a number. -/
theorem equal_word : ∀ q c : Fin 32,
    (BitVec.setWidth 32 (IntOp.cmpi CmpIPredicate.eq (BitVec.ofNat 32 q.val) (BitVec.ofNat 32 c.val))).toInt
      = if q.val = c.val then 1 else 0 := by
  decide +kernel

/-- An element of the 0/1 matrix: one where the row's quotient by 32 is the column. -/
theorem mask_apply (l : Fin 1024) (c : Fin 32) :
    FloatOps.sitofp (F := Ideal) FTy.f32
      (BitVec.setWidth 32 (IntOp.cmpi CmpIPredicate.eq (rowWord (BitVec.ofNat 32 l.val)) (BitVec.ofNat 32 c.val)))
      = if l.val / 32 = c.val then (1 : EReal) else 0 := by
  rw [rowWord_eq]
  show (((BitVec.setWidth 32 (IntOp.cmpi CmpIPredicate.eq (BitVec.ofNat 32 (l.val / 32)) (BitVec.ofNat 32 c.val))).toInt : ℝ) : EReal) = _
  rw [equal_word ⟨l.val / 32, by omega⟩ c]
  split <;> simp

/-- A sum over 1024 columns against the 0/1 matrix is the sum over the 32 columns of one configuration. -/
theorem sum_mask (f : Fin 1024 → EReal) (c : Fin 32) :
    ∑ l, f l * (if l.val / 32 = c.val then (1 : EReal) else 0) = ∑ a : Fin 32, f ⟨c.val * 32 + a.val, by omega⟩ := by
  rw [← Fin.sum_mul_add_fin 32 32 (fun l : Fin 1024 => f l * (if l.val / 32 = c.val then (1 : EReal) else 0)),
    Finset.sum_eq_single c]
  · refine Finset.sum_congr rfl fun a _ => ?_
    rw [if_pos (by show (c.val * 32 + a.val) / 32 = c.val; omega), mul_one]
  · intro b _ hb
    refine Finset.sum_eq_zero fun a _ => ?_
    rw [if_neg (by
      show ¬ (b.val * 32 + a.val) / 32 = c.val
      have := fun h => hb (Fin.ext h)
      omega), mul_zero]
  · intro h; exact absurd (Finset.mem_univ c) h

/-! ## The array of energies and squared speeds -/

/-- The network of the kernel's weight blocks: the first two matrices are stored transposed. -/
def blockNet (w1 : FVec Ideal S64x3 .f32) (b1 : FVec Ideal S64x1 .f32) (w2 : FVec Ideal S64x64 .f32) (b2 w3 : FVec Ideal S64x1 .f32)
    (b3 : FVec Ideal S1x1 .f32) : Net where
  W1 d j := w1 (ix2 j d)
  b1 j := b1 (ix2 j 0)
  W2 j k := w2 (ix2 k j)
  b2 k := b2 (ix2 k 0)
  W3 k := w3 (ix2 k 0)
  b3 := b3 (ix2 0 0)

section
variable (w1 : FVec Ideal S64x3 .f32) (x : FVec Ideal S3x65536 .f32) (b1 : FVec Ideal S64x1 .f32) (w2 : FVec Ideal S64x64 .f32)
  (b2 w3 : FVec Ideal S64x1 .f32) (b3 : FVec Ideal S1x1 .f32) (v : FVec Ideal S3x65536 .f32)

/-- Row `r` below 64, column `l`: the energy of the block's atom `1024 r + l`. -/
theorem energy_apply (r : Fin 64) (l : Fin 1024) :
    k0_pay2 (F := Ideal) w1 x b1 w2 b2 w3 b3 v (ix2 (⟨r.val, by omega⟩ : Fin 128) l)
      = (blockNet w1 b1 w2 b2 w3 b3).energy fun d => x (ix2 d (⟨r.val * 1024 + l.val, by omega⟩ : Fin 65536)) := by
  pointwise [k0_pay2]
  have h0 : r.val / 64 = 0 := by omega
  have h1 : r.val % 64 = r.val := by omega
  simp only [h0, h1, Nat.lt_one_iff, ↓reduceDIte]
  rfl

/-- Row `64 + r`, column `l`: the squared speed of the block's atom `1024 r + l`. -/
theorem speedSq_apply (r : Fin 64) (l : Fin 1024) :
    k0_pay2 (F := Ideal) w1 x b1 w2 b2 w3 b3 v (ix2 (⟨64 + r.val, by omega⟩ : Fin 128) l)
      = speedSq fun d => v (ix2 d (⟨r.val * 1024 + l.val, by omega⟩ : Fin 65536)) := by
  pointwise [k0_pay2]
  have h0 : (64 + r.val) / 64 = 1 := by omega
  have h1 : (64 + r.val) % 64 = r.val := by omega
  simp only [h0, h1, Nat.lt_irrefl, ↓reduceDIte]
  rfl

end

/-! ## The point's share of the loss -/

/-- The exponent of configuration `c` of row `r`, from the array of energies (rows 0 to 63) and squared speeds (rows 64
    to 127). -/
def expo (ev : FVec Ideal S128x1024 .f32) (r : Fin 64) (c : Fin 32) : EReal :=
  ((20 : ℝ) : EReal) * ∑ a : Fin 32, ev (ix2 (⟨r.val, by omega⟩ : Fin 128) (⟨c.val * 32 + a.val, by omega⟩ : Fin 1024))
    + ((1 / 2 : ℝ) : EReal) * Ideal.log (∑ a : Fin 32, ev (ix2 (⟨64 + r.val, by omega⟩ : Fin 128) (⟨c.val * 32 + a.val, by omega⟩ : Fin 1024)))

/-- The share of the loss that a point computes from its array of energies and squared speeds. -/
def share (ev : FVec Ideal S128x1024 .f32) : FVec Ideal S1x1 .f32 :=
  k0_pay5 ev (iota .tc S1024x32 32 [0] iota_S1024x32_d0_w32) (iota .tc S1024x32 32 [1] iota_S1024x32_d1_w32) 32#32 k0_pay3 k0_pay4

theorem share_apply (ev : FVec Ideal S128x1024 .f32) (j : S1x1.Idx) :
    share ev j = Ideal.div (∑ r : Fin 64, (top (expo ev r)
      + Ideal.log (∑ c, Ideal.exp (expo ev r c - top (expo ev r))))) ((2560 : ℝ) : EReal) := by
  idx_vars j
  pointwise [share, k0_pay5, k0_pay3, k0_pay4]
  have hm := mask_apply
  simp only [rowWord] at hm
  simp only [hm, sum_mask, ofBits_20, ofBits_half, ofBits_2560, ofBits_neg_inf, Fin.sum_univ_one]
  rfl

end Cert.KernelIdeal.Block

end
-- ==== Proof.Array.lean ====
/-
  What the region's result array holds when it ends: the shares of the two grid points added, each the sum of the
  log-sum-exps of its 64 reactions over 2560.
-/
module

public import proofs.«01_k».proof.Proof.Block
public import proofs.«01_k».proof.Proof.Gen.KernelIdeal.Frame
public import Idealize.ShloMosaic.Lib.Pipeline.ValueKit

@[expose] public section

set_option maxRecDepth 16384

noncomputable section

namespace Cert.KernelIdeal.Array

open Cert.KernelIdeal Cert.KernelIdeal.Gen Cert.KernelIdeal.Block Cert.Loss
open Idealize.ShloMosaic Idealize.ShloMosaic.TcCoe Idealize.SL.Sem
open Idealize.ShloMosaic.Pipeline (Dat)

variable (m : (ℓ : Loc nD τ sig) → Buf (Elt Ideal) ℓ)

/-- The network of the launched arguments. -/
def argNet (c : Dev nD) : Net :=
  net (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The launched positions. -/
def argX (c : Dev nD) : Fin 131072 → Fin 3 → EReal := rows (m ((c : Thread nD τ).loc main_arg0))

/-- The launched velocities. -/
def argV (c : Dev nD) : Fin 131072 → Fin 3 → EReal := rows (m ((c : Thread nD τ).loc main_arg1))

/-! ## The operands that the host transposes or widens before the region -/

theorem entry_v0 (c : Dev nD) : V m c main_v0 = transpose S3x131072 [1, 0] (m ((c : Thread nD τ).loc main_arg0)) Facts₀.transposes_S131072x3_S3x131072_1_0 := by
  show StableHlo.after hostOps0 (fun b => m (c, b)) (Proc.devRef .tc main_v0) = _
  after_results

theorem entry_v1 (c : Dev nD) : V m c main_v1 = transpose S3x131072 [1, 0] (m ((c : Thread nD τ).loc main_arg1)) Facts₀.transposes_S131072x3_S3x131072_1_0 := by
  show StableHlo.after hostOps0 (fun b => m (c, b)) (Proc.devRef .tc main_v1) = _
  after_results

theorem entry_v2 (c : Dev nD) : V m c main_v2 = transpose S64x3 [1, 0] (m ((c : Thread nD τ).loc main_arg4)) Facts₀.transposes_S3x64_S64x3_1_0 := by
  show StableHlo.after hostOps0 (fun b => m (c, b)) (Proc.devRef .tc main_v2) = _
  after_results

theorem entry_v3 (c : Dev nD) : V m c main_v3 = broadcastInDim S64x1 ![0] Facts₀.bcast_S64_S64x1_0 (m ((c : Thread nD τ).loc main_arg5)) := by
  show StableHlo.after hostOps0 (fun b => m (c, b)) (Proc.devRef .tc main_v3) = _
  after_results

theorem entry_v4 (c : Dev nD) : V m c main_v4 = transpose S64x64 [1, 0] (m ((c : Thread nD τ).loc main_arg6)) Facts₀.transposes_S64x64_S64x64_1_0 := by
  show StableHlo.after hostOps0 (fun b => m (c, b)) (Proc.devRef .tc main_v4) = _
  after_results

theorem entry_v5 (c : Dev nD) : V m c main_v5 = broadcastInDim S64x1 ![0] Facts₀.bcast_S64_S64x1_0 (m ((c : Thread nD τ).loc main_arg7)) := by
  show StableHlo.after hostOps0 (fun b => m (c, b)) (Proc.devRef .tc main_v5) = _
  after_results

theorem entry_v6 (c : Dev nD) : V m c main_v6 = broadcastInDim S1x1 ![0] Facts₀.bcast_S1_S1x1_0 (m ((c : Thread nD τ).loc main_arg9)) := by
  show StableHlo.after hostOps0 (fun b => m (c, b)) (Proc.devRef .tc main_v6) = _
  after_results

/-! ## The blocks a grid point reads -/

/-- Which block of each operand a grid point reads: the point's own columns of the two transposed coordinate arrays, the
    whole of every weight. -/
theorem idx : ∀ t : Fin cfg0.N, win0_0.index t = ![0, t.val] ∧ win0_1.index t = ![0, t.val] ∧ win0_2.index t = ![0, 0]
    ∧ win0_3.index t = ![0, 0] ∧ win0_4.index t = ![0, 0] ∧ win0_5.index t = ![0, 0] ∧ win0_6.index t = ![0, 0]
    ∧ win0_7.index t = ![0, 0] ∧ t.val < 2 :=
  (by decide +kernel : ∀ t : Fin grid0.N, _)

theorem two (t : Fin cfg0.N) : t.val < 2 := (idx t).2.2.2.2.2.2.2.2

theorem x_apply (c : Dev nD) (t : Fin cfg0.N) (d : Fin 3) (q : Fin 65536) :
    (show FVec Ideal S3x65536 .f32 from iblk m c 0 t) (ix2 d q) = argX m c ⟨t.val * 65536 + q.val, by have := two t; omega⟩ d := by
  unfold argX rows
  show (show FVec Ideal S3x131072 .f32 from V m c main_v0) (((cfg0.win 0).blk t).view.emb (ix2 d q)) = _
  rw [entry_v0]
  pointwise
  blk_ext [idx t]

theorem v_apply (c : Dev nD) (t : Fin cfg0.N) (d : Fin 3) (q : Fin 65536) :
    (show FVec Ideal S3x65536 .f32 from iblk m c 1 t) (ix2 d q) = argV m c ⟨t.val * 65536 + q.val, by have := two t; omega⟩ d := by
  unfold argV rows
  show (show FVec Ideal S3x131072 .f32 from V m c main_v1) (((cfg0.win 1).blk t).view.emb (ix2 d q)) = _
  rw [entry_v1]
  pointwise
  blk_ext [idx t]

theorem w1_apply (c : Dev nD) (t : Fin cfg0.N) (j : Fin 64) (d : Fin 3) :
    (show FVec Ideal S64x3 .f32 from iblk m c 2 t) (ix2 j d) = (argNet m c).W1 d j := by
  unfold argNet net
  show (show FVec Ideal S64x3 .f32 from V m c main_v2) (((cfg0.win 2).blk t).view.emb (ix2 j d)) = _
  rw [entry_v2]
  pointwise
  blk_ext [idx t]

theorem b1_apply (c : Dev nD) (t : Fin cfg0.N) (j : Fin 64) :
    (show FVec Ideal S64x1 .f32 from iblk m c 3 t) (ix2 j 0) = (argNet m c).b1 j := by
  unfold argNet net
  show (show FVec Ideal S64x1 .f32 from V m c main_v3) (((cfg0.win 3).blk t).view.emb (ix2 j 0)) = _
  rw [entry_v3]
  pointwise
  blk_ext [idx t]

theorem w2_apply (c : Dev nD) (t : Fin cfg0.N) (k j : Fin 64) :
    (show FVec Ideal S64x64 .f32 from iblk m c 4 t) (ix2 k j) = (argNet m c).W2 j k := by
  unfold argNet net
  show (show FVec Ideal S64x64 .f32 from V m c main_v4) (((cfg0.win 4).blk t).view.emb (ix2 k j)) = _
  rw [entry_v4]
  pointwise
  blk_ext [idx t]

theorem b2_apply (c : Dev nD) (t : Fin cfg0.N) (k : Fin 64) :
    (show FVec Ideal S64x1 .f32 from iblk m c 5 t) (ix2 k 0) = (argNet m c).b2 k := by
  unfold argNet net
  show (show FVec Ideal S64x1 .f32 from V m c main_v5) (((cfg0.win 5).blk t).view.emb (ix2 k 0)) = _
  rw [entry_v5]
  pointwise
  blk_ext [idx t]

theorem w3_apply (c : Dev nD) (t : Fin cfg0.N) (k : Fin 64) :
    (show FVec Ideal S64x1 .f32 from iblk m c 6 t) (ix2 k 0) = (argNet m c).W3 k := by
  unfold argNet net
  show (show FVec Ideal S64x1 .f32 from V m c main_arg8) (((cfg0.win 6).blk t).view.emb (ix2 k 0)) = _
  rw [V_main_arg8]
  blk_ext [idx t]

theorem b3_apply (c : Dev nD) (t : Fin cfg0.N) :
    (show FVec Ideal S1x1 .f32 from iblk m c 7 t) (ix2 0 0) = (argNet m c).b3 := by
  unfold argNet net
  show (show FVec Ideal S1x1 .f32 from V m c main_v6) (((cfg0.win 7).blk t).view.emb (ix2 0 0)) = _
  rw [entry_v6]
  pointwise
  blk_ext [idx t]

/-- The network a grid point reads is the launched one. -/
theorem blockNet_eq (c : Dev nD) (t : Fin cfg0.N) :
    blockNet (iblk m c 2 t) (iblk m c 3 t) (iblk m c 4 t) (iblk m c 5 t) (iblk m c 6 t) (iblk m c 7 t) = argNet m c :=
  (Net.mk.injEq ..).mpr ⟨funext fun d => funext fun j => w1_apply m c t j d, funext fun j => b1_apply m c t j,
    funext fun j => funext fun k => w2_apply m c t k j, funext fun k => b2_apply m c t k, funext fun k => w3_apply m c t k,
    b3_apply m c t⟩

/-! ## A point's share -/

/-- The array of energies and squared speeds that grid point `t` computes. -/
def ev (c : Dev nD) (t : Fin cfg0.N) : FVec Ideal S128x1024 .f32 :=
  k0_pay2 (iblk m c 2 t) (iblk m c 0 t) (iblk m c 3 t) (iblk m c 4 t) (iblk m c 5 t) (iblk m c 6 t) (iblk m c 7 t) (iblk m c 1 t)

/-- The reaction that row `r` of point `t` holds. -/
def reaction (t : Fin cfg0.N) (r : Fin 64) : Fin 128 := ⟨t.val * 64 + r.val, by have := two t; omega⟩

theorem atom_eq (t : Fin cfg0.N) (r : Fin 64) (g a : Fin 32) (h : t.val * 65536 + (r.val * 1024 + (g.val * 32 + a.val)) < 131072) :
    (⟨t.val * 65536 + (r.val * 1024 + (g.val * 32 + a.val)), h⟩ : Fin 131072) = atom (reaction t r) g a := by
  apply Fin.ext
  show t.val * 65536 + (r.val * 1024 + (g.val * 32 + a.val)) = ((t.val * 64 + r.val) * 32 + g.val) * 32 + a.val
  omega

theorem ev_energy (c : Dev nD) (t : Fin cfg0.N) (r : Fin 64) (g a : Fin 32) :
    ev m c t (ix2 (⟨r.val, by omega⟩ : Fin 128) (⟨g.val * 32 + a.val, by omega⟩ : Fin 1024))
      = (argNet m c).energy (argX m c (atom (reaction t r) g a)) := by
  unfold ev
  rw [energy_apply _ _ _ _ _ _ _ _ r ⟨g.val * 32 + a.val, by omega⟩, blockNet_eq, ← atom_eq t r g a (by have := two t; omega)]
  exact congrArg _ (funext fun d => x_apply m c t d ⟨r.val * 1024 + (g.val * 32 + a.val), by omega⟩)

theorem ev_speedSq (c : Dev nD) (t : Fin cfg0.N) (r : Fin 64) (g a : Fin 32) :
    ev m c t (ix2 (⟨64 + r.val, by omega⟩ : Fin 128) (⟨g.val * 32 + a.val, by omega⟩ : Fin 1024))
      = speedSq (argV m c (atom (reaction t r) g a)) := by
  unfold ev
  rw [speedSq_apply _ _ _ _ _ _ _ _ r ⟨g.val * 32 + a.val, by omega⟩, ← atom_eq t r g a (by have := two t; omega)]
  exact congrArg _ (funext fun d => v_apply m c t d ⟨r.val * 1024 + (g.val * 32 + a.val), by omega⟩)

section
variable {m} {c : Dev nD} (h3 : ∀ k, IsReal ((argNet m c).W3 k)) (hb : (argNet m c).b3 < ⊤) (hv : ∀ n d, IsReal (argV m c n d))
include hv

/-- The exponents of a point are the weights of its reactions. -/
theorem expo_eq (t : Fin cfg0.N) (r : Fin 64) :
    expo (ev m c t) r = (argNet m c).weight (argX m c) (argV m c) (reaction t r) := by
  funext g
  rw [← (argNet m c).weight_half hv]
  unfold expo
  simp only [ev_energy, ev_speedSq]

include h3 hb

/-- A point's share is the sum of the log-sum-exps of its 64 reactions over 2560. -/
theorem share_eq (t : Fin cfg0.N) (j : S1x1.Idx) :
    share (ev m c t) j
      = Ideal.div (∑ r : Fin 64, logSumExp ((argNet m c).weight (argX m c) (argV m c) (reaction t r))) ((2560 : ℝ) : EReal) := by
  rw [share_apply]
  simp only [expo_eq hv, logSumExp_kernel _ fun g => (argNet m c).weight_lt_top h3 hb hv _ g]

end

/-! ## The array after the region -/

theorem out_A (c : Dev nD) (t : Fin cfg0.N) (h0 : t.val % 2 = 0) (h1 : ¬t.val % 2 = 1) (j : S1x1.Idx) :
    outsAt0 m c t.val t.isLt j = share (ev m c t) j := by
  rw [outsAt0_A m c t h0 h1]
  frame_out
  rfl

theorem out_B (c : Dev nD) (t : Fin cfg0.N) (h0 : ¬t.val % 2 = 0) (h1 : t.val % 2 = 1) (j : S1x1.Idx) :
    outsAt0 m c t.val t.isLt j
      = outsAt0 m c (t.val - 1) (Nat.lt_of_le_of_lt (Nat.sub_le _ _) t.isLt) j + share (ev m c t) j := by
  rw [outsAt0_B m c t h0 h1]
  frame_out
  show k0_pay1 (share (ev m c t)) _ j = _
  idx_vars j
  pointwise [k0_pay1]

/-- When the region ends the result array holds the sum of the shares of the two points. -/
theorem final (c : Dev nD) :
    (dats m 0 c).arrAt 8 cfg0.N = fun j : S1x1.Idx => share (ev m c t0_0) j + share (ev m c t0_1) j := by
  refine (dats m 0 c).arrAt_eq_of_after_last 8 t0_1 (by decide +kernel) _ fun j => ?_
  blk_simp
  rw [after0_8, out_B m c t0_1 (by decide +kernel) (by decide +kernel)]
  exact congrArg (· + _) (out_A m c t0_0 (by decide +kernel) (by decide +kernel) _)

/-- When the region ends the result array holds the loss of the launched arguments. -/
theorem final_loss {m : (ℓ : Loc nD τ sig) → Buf (Elt Ideal) ℓ} {c : Dev nD} (h3 : ∀ k, IsReal ((argNet m c).W3 k))
    (hb : (argNet m c).b3 < ⊤) (hv : ∀ n d, IsReal (argV m c n d)) :
    (dats m 0 c).arrAt 8 cfg0.N = fun _ : S1x1.Idx => (argNet m c).loss (argX m c) (argV m c) := by
  rw [final]
  funext j
  rw [share_eq h3 hb hv, share_eq h3 hb hv, div_parts]
  unfold Net.loss
  rw [← Fin.sum_mul_add_fin 2 64 (fun r : Fin 128 => logSumExp ((argNet m c).weight (argX m c) (argV m c) r)), Fin.sum_univ_two]
  rfl

/-- The reshape after the region reads the region's one element: it is the loss. -/
theorem result {m : (ℓ : Loc nD τ sig) → Buf (Elt Ideal) ℓ} {c : Dev nD} (h3 : ∀ k, IsReal ((argNet m c).W3 k))
    (hb : (argNet m c).b3 < ⊤) (hv : ∀ n d, IsReal (argV m c n d)) :
    Pipeline.afterTail₀ cfgs (dats m) 0 (V0 m) [hostOps1] c main_v8
      = fun _ : S_.Idx => (argNet m c).loss (argX m c) (argV m c) := by
  have e : Pipeline.withArrays cfg0.spec c (V0 m c) (fun w => (dats m 0 c).arrAt w cfg0.N) (Proc.devRef .tc main_v7)
      = fun _ : S1x1.Idx => (argNet m c).loss (argX m c) (argV m c) :=
    (Pipeline.withArrays_arr spec0 (by decide) c (V0 m c) (fun w => (dats m 0 c).arrAt w cfg0.N) 8).trans (final_loss h3 hb hv)
  show StableHlo.after hostOps1 (Pipeline.withArrays cfg0.spec c (V0 m c) fun w => (dats m 0 c).arrAt w cfg0.N)
    (Proc.devRef .tc main_v8) = _
  after_results
  rw [e]
  rfl

end Cert.KernelIdeal.Array

end
-- ==== Proof.Segment.lean ====
/-
  A segment sum at the ideal instance: a vector of zeros to which every atom's value is added at the position its word
  names, where atom `32 g + a` carries the word of `g`. Position `g` ends with the sum of its 32 atoms' values.
-/
module

public import proofs.«01_k».proof.Proof.Spec
public import Idealize.ShloMosaic.Lib.Routing.OpsPair
public import Idealize.ShloMosaic.Lib.Pointwise

@[expose] public section

noncomputable section

namespace Cert.Loss

open Idealize.ShloMosaic

/-- The dimension numbers that add update `n` whole at the one position its word names. -/
structure AddsAtWord (d : ScatterDims ⟨1, ![4096]⟩ ⟨2, ![131072, 1]⟩ ⟨1, ![131072]⟩) : Prop where
  window : d.updateWindowDims = []
  inserted : d.insertedWindowDims = [0]
  axes : d.scatterDimsToOperandDims = [0]
  vec : d.indexVectorDim = 1

variable {d : ScatterDims ⟨1, ![4096]⟩ ⟨2, ![131072, 1]⟩ ⟨1, ![131072]⟩}

/-- Update `n` lands at position `g` exactly when its word, read signed, is `g`. -/
theorem AddsAtWord.lands (h : AddsAtWord d) (idx : IVec ⟨2, ![131072, 1]⟩ 32) (n : Fin 131072) (g : Fin 4096) :
    d.resultIdx? (ix1 n) idx = some (ix1 g) ↔ (idx (ix2 n 0)).toInt = (g.val : Int) := by
  have hm : (0 : Fin 1) ∈ d.scatterDimsToOperandDims := by rw [h.axes]; exact List.mem_singleton.2 rfl
  have hw : d.window (ix1 n) 0 = 0 := by
    unfold ScatterDims.window
    exact dif_neg fun k => (of_decide_eq_true (List.mem_filter.1 k).2) (by rw [h.inserted]; exact List.mem_singleton.2 rfl)
  have hs : d.start (ix1 n) idx 0 = (idx (ix2 n 0)).toInt := by
    unfold ScatterDims.start
    rw [dif_pos hm]
    refine congrArg (fun i => (idx i).toInt) (funext fun b => ?_)
    match b with
    | ⟨0, _⟩ =>
      apply Fin.ext
      unfold ScatterDims.siIdx
      rw [dif_neg (by rw [h.vec]; exact Nat.zero_ne_one)]
      unfold ScatterDims.siCoord
      have all : ∀ q : Fin 1, ((ix1 n : (⟨1, ![131072]⟩ : Shape).Idx) q).val = n.val := fun q => by
        obtain rfl : q = 0 := Subsingleton.elim _ _
        rfl
      exact all _
    | ⟨1, _⟩ => exact Subsingleton.elim (α := Fin 1) _ _
  rw [ix1_eq_valueIdx g, Routing.resultIdx?_ix1, hw, hs, Nat.cast_zero, add_zero]

/-- **A segment sum.** Where atom `n`'s word is that of `n / 32`, position `32 r + c` holds the sum of the values of the atoms of
    configuration `c` of reaction `r`. -/
theorem AddsAtWord.sum (h : AddsAtWord d) (zero : FVec Ideal ⟨1, ![4096]⟩ .f32) (hz : ∀ i, zero i = 0)
    (idx : IVec ⟨2, ![131072, 1]⟩ 32) (hidx : ∀ n : Fin 131072, idx (ix2 n 0) = BitVec.ofNat 32 (n.val / 32))
    (upd : FVec Ideal ⟨1, ![131072]⟩ .f32) (r : Fin 128) (c : Fin 32) (hg : r.val * 32 + c.val < 4096) :
    Host.scatterAdd d zero idx upd (ix1 (⟨r.val * 32 + c.val, hg⟩ : Fin 4096)) = ∑ a : Fin 32, upd (ix1 (atom r c a)) := by
  have hl : ∀ n : Fin 131072, d.resultIdx? (ix1 n) idx = some (ix1 (⟨r.val * 32 + c.val, hg⟩ : Fin 4096))
      ↔ n.val / 32 = r.val * 32 + c.val := fun n => by
    have := n.isLt
    rw [h.lands, hidx, StableHlo.Predicate.toInt_ofNat_small _ (by omega)]
    exact Int.ofNat_inj
  show zero _ + ∑ j ∈ Finset.univ.filter (fun j => d.resultIdx? j idx = some _), upd j = _
  rw [hz, zero_add]
  symm
  refine Finset.sum_bij (fun a _ => ix1 (atom r c a)) (fun a _ => ?_) (fun a _ b _ e => ?_) (fun j hj => ?_) (fun _ _ => rfl)
  · rw [Finset.mem_filter, hl]
    refine ⟨Finset.mem_univ _, ?_⟩
    show ((r.val * 32 + c.val) * 32 + a.val) / 32 = _
    omega
  · have e0 : (atom r c a).val = (atom r c b).val := congrArg (fun i : (⟨1, ![131072]⟩ : Shape).Idx => (i 0).val) e
    apply Fin.ext
    have e1 : (r.val * 32 + c.val) * 32 + a.val = (r.val * 32 + c.val) * 32 + b.val := e0
    omega
  · idx_vars j
    rw [Finset.mem_filter, hl] at hj
    refine ⟨⟨j0.val % 32, Nat.mod_lt _ (by decide)⟩, Finset.mem_univ _, congrArg _ (Fin.ext ?_)⟩
    show (r.val * 32 + c.val) * 32 + j0.val % 32 = j0.val
    omega

end Cert.Loss

end
-- ==== Proof.Reference.lean ====
/-
  What the reference computes: its result is read in three stages — the energies and squared speeds of the atoms, the
  exponents of the configurations, the loss — and each stage at an index.
-/
module

public import proofs.«01_k».proof.Proof.Laws
public import proofs.«01_k».proof.Proof.Segment
public import proofs.«01_k».proof.Proof.Gen.ReferenceIdeal.Run
public import Idealize.ShloMosaic.Lib.Pointwise

@[expose] public section

set_option maxRecDepth 16384

noncomputable section

namespace Cert.ReferenceIdeal.Stages

open Cert.ReferenceIdeal Cert.ReferenceIdeal.Facts₀ Cert.Loss
open Idealize.ShloMosaic Idealize.ShloMosaic.TcCoe

/-- The energy of every atom. -/
def energies (x : FVec Ideal S131072x3 .f32) (W1 : FVec Ideal S3x64 .f32) (b1 : FVec Ideal S64 .f32) (W2 : FVec Ideal S64x64 .f32)
    (b2 : FVec Ideal S64 .f32) (W3 : FVec Ideal S64x1 .f32) (b3 : FVec Ideal S1 .f32) : FVec Ideal S131072 .f32 :=
  shapeCast _ (addf (Host.dotGeneral dot_S131072x64_S64x1_S131072x1_1_0_0_1_n_n none
    (Host.tanh (addf (Host.dotGeneral dot_S131072x64_S64x64_S131072x64_1_0_0_1_n_n none
      (Host.tanh (addf (Host.dotGeneral dot_S131072x3_S3x64_S131072x64_1_0_0_1_n_n none x W1)
        (broadcastInDim S131072x64 ![0, 1] bcast_S1x64_S131072x64_0_1 (broadcastInDim S1x64 ![1] bcast_S64_S1x64_1 b1)))) W2)
      (broadcastInDim S131072x64 ![0, 1] bcast_S1x64_S131072x64_0_1 (broadcastInDim S1x64 ![1] bcast_S64_S1x64_1 b2)))) W3)
    (broadcastInDim S131072x1 ![0, 1] bcast_S1x1_S131072x1_0_1 (broadcastInDim S1x1 ![1] bcast_S1_S1x1_1 b3)))
    shapeCasts_S131072x1_S131072

/-- The squared speed of every atom. -/
def speeds (v : FVec Ideal S131072x3 .f32) : FVec Ideal S131072 .f32 :=
  Host.reduceAdd (mulf v v) (constant S_ .f32 0x00000000#32) reducesTo_S131072x3_S131072_d1 h_S_

/-- The sums over the configurations of a value per atom. -/
def segments (batch : IVec S131072 32) (u : FVec Ideal S131072 .f32) : FVec Ideal S4096 .f32 :=
  Host.scatterAdd scatter_S4096_S131072x1_S131072_n_0_0_1 (broadcastInDim S4096 ![] bcast_S_S4096 (constant S_ .f32 0x00000000#32))
    (broadcastInDim S131072x1 ![0] bcast_S131072_S131072x1_0 batch) u

/-- The exponents, reaction by configuration, from the configurations' energies and squared speeds. -/
def exponents (e s : FVec Ideal S4096 .f32) : FVec Ideal S128x32 .f32 :=
  shapeCast _ (addf (mulf (broadcastInDim S4096 ![] bcast_S_S4096 (constant S_ .f32 0x41A00000#32)) e) (Host.log (Host.sqrt s)))
    shapeCasts_S4096_S128x32

/-- What each reaction's exponents are shifted by: their maximum where it is finite, else zero. -/
def shift (w : FVec Ideal S128x32 .f32) : FVec Ideal S128x1 .f32 :=
  let top : FVec Ideal S128x1 .f32 := broadcastInDim S128x1 ![0] bcast_S128_S128x1_0
    (Host.reduce FloatOps.maximumf w (constant S_ .f32 0xFF800000#32) reducesTo_S128x32_S128_d1 h_S_)
  select (cmpf .olt (Host.absf top) (broadcastInDim S128x1 ![] bcast_S_S128x1 (constant S_ .f32 0x7F800000#32))) top
    (broadcastInDim S128x1 ![] bcast_S_S128x1 (id (constant S_ .f32 0x00000000#32)))

/-- The log-sum-exp of each reaction. -/
def logSums (w : FVec Ideal S128x32 .f32) : FVec Ideal S128 .f32 :=
  shapeCast _ (addf (Host.log (broadcastInDim S128x1 ![0] bcast_S128_S128x1_0
    (Host.reduceAdd (Host.exp (subf w (broadcastInDim S128x32 ![0, 1] bcast_S128x1_S128x32_0_1 (shift w))))
      (constant S_ .f32 0x00000000#32) reducesTo_S128x32_S128_d1 h_S_))) (shift w)) shapeCasts_S128x1_S128

/-- The mean of the log-sum-exps, over twenty. -/
def mean (l : FVec Ideal S128 .f32) : FVec Ideal S_ .f32 :=
  Host.divf (Host.divf (Host.reduceAdd l (constant S_ .f32 0x00000000#32) reducesTo_S128_S_d0 h_S_)
    (constant S_ .f32 0x43000000#32)) (constant S_ .f32 0x41A00000#32)

/-- The reference's result is these stages in turn. -/
theorem stages (m : (ℓ : Loc nD τ sig) → Buf (Elt Ideal) ℓ) (c : Dev nD) :
    Value.res_main_v45 m c
      = mean (logSums (exponents
          (segments (m ((c : Thread nD τ).loc main_arg2)) (energies (m ((c : Thread nD τ).loc main_arg0))
            (m ((c : Thread nD τ).loc main_arg4)) (m ((c : Thread nD τ).loc main_arg5)) (m ((c : Thread nD τ).loc main_arg6))
            (m ((c : Thread nD τ).loc main_arg7)) (m ((c : Thread nD τ).loc main_arg8)) (m ((c : Thread nD τ).loc main_arg9))))
          (segments (m ((c : Thread nD τ).loc main_arg2)) (speeds (m ((c : Thread nD τ).loc main_arg1)))))) := rfl

/-! ## The stages at an index -/

theorem energies_apply (x : FVec Ideal S131072x3 .f32) (W1 : FVec Ideal S3x64 .f32) (b1 : FVec Ideal S64 .f32)
    (W2 : FVec Ideal S64x64 .f32) (b2 : FVec Ideal S64 .f32) (W3 : FVec Ideal S64x1 .f32) (b3 : FVec Ideal S1 .f32) (n : Fin 131072) :
    energies x W1 b1 W2 b2 W3 b3 (ix1 n) = (net W1 b1 W2 b2 W3 b3).energy (rows x n) := by
  pointwise [energies, Net.energy, Net.hid2, Net.hid1, net, rows]
  simp only [mul_comm]

theorem speeds_apply (v : FVec Ideal S131072x3 .f32) (n : Fin 131072) : speeds v (ix1 n) = speedSq (rows v n) := by
  pointwise [speeds, speedSq, rows]

/-- Where atom `n`'s word is that of `n / 32`, the sum of a configuration is over its 32 atoms. -/
theorem segments_apply (batch : IVec S131072 32) (hbatch : ∀ n : Fin 131072, batch (ix1 n) = BitVec.ofNat 32 (n.val / 32))
    (u : FVec Ideal S131072 .f32) (r : Fin 128) (c : Fin 32) (hg : r.val * 32 + c.val < 4096) :
    segments batch u (ix1 (⟨r.val * 32 + c.val, hg⟩ : Fin 4096)) = ∑ a : Fin 32, u (ix1 (atom r c a)) := by
  unfold segments
  refine AddsAtWord.sum ⟨rfl, rfl, rfl, rfl⟩ _ (fun i => ?_) _ (fun n => ?_) u r c hg
  · idx_vars i
    pointwise
  · pointwise
    exact hbatch n

theorem exponents_apply (e s : FVec Ideal S4096 .f32) (r : Fin 128) (c : Fin 32) :
    exponents e s (ix2 r c) = ((20 : ℝ) : EReal) * e (ix1 (⟨r.val * 32 + c.val, by omega⟩ : Fin 4096))
      + Ideal.log (Ideal.sqrt (s (ix1 (⟨r.val * 32 + c.val, by omega⟩ : Fin 4096)))) := by
  pointwise [exponents]
  rw [ofBits_20]

theorem shift_apply (w : FVec Ideal S128x32 .f32) (r : Fin 128) (k : Fin 1) :
    shift w (ix2 r k) = if max (top fun c => w (ix2 r c)) (-(top fun c => w (ix2 r c))) < ⊤ then top fun c => w (ix2 r c) else 0 := by
  pointwise [shift]
  rw [ofBits_neg_inf, ofBits_inf]
  have hz : (id (constant (F := Ideal) S_ .f32 0#32)) ix0 = (0 : EReal) := by
    show Ideal.ofBits .f32 0#32 = 0
    pointwise
  rw [hz]
  rfl

theorem logSums_apply (w : FVec Ideal S128x32 .f32) (h : ∀ r c, w (ix2 r c) < ⊤) (r : Fin 128) :
    logSums w (ix1 r) = logSumExp fun c => w (ix2 r c) := by
  rw [← logSumExp_reference _ (h r)]
  pointwise [logSums]
  simp only [shift_apply]

theorem mean_apply (l : FVec Ideal S128 .f32) :
    mean l ix0 = Ideal.div (Ideal.div (∑ r : Fin 128, l (ix1 r)) ((128 : ℝ) : EReal)) ((20 : ℝ) : EReal) := by
  pointwise [mean]
  rw [ofBits_20, ofBits_128]

/-- **The reference's result is the loss**, where atom `n`'s word is that of `n / 32` and the output weights and the
    velocities are real numbers and the output bias is below infinity. -/
theorem result (x v : FVec Ideal S131072x3 .f32) (batch : IVec S131072 32)
    (W1 : FVec Ideal S3x64 .f32) (b1 : FVec Ideal S64 .f32) (W2 : FVec Ideal S64x64 .f32) (b2 : FVec Ideal S64 .f32)
    (W3 : FVec Ideal S64x1 .f32) (b3 : FVec Ideal S1 .f32)
    (hbatch : ∀ n : Fin 131072, batch (ix1 n) = BitVec.ofNat 32 (n.val / 32))
    (h3 : ∀ k, IsReal ((net W1 b1 W2 b2 W3 b3).W3 k)) (hb : (net W1 b1 W2 b2 W3 b3).b3 < ⊤) (hv : ∀ n d, IsReal (rows v n d)) :
    mean (logSums (exponents (segments batch (energies x W1 b1 W2 b2 W3 b3)) (segments batch (speeds v))))
      = fun _ => (net W1 b1 W2 b2 W3 b3).loss (rows x) (rows v) := by
  have hw : ∀ r k, exponents (segments batch (energies x W1 b1 W2 b2 W3 b3)) (segments batch (speeds v)) (ix2 r k)
      = (net W1 b1 W2 b2 W3 b3).weight (rows x) (rows v) r k := fun r k => by
    rw [exponents_apply, segments_apply batch hbatch, segments_apply batch hbatch]
    simp only [energies_apply, speeds_apply]
    rfl
  have hl : ∀ r, logSums (exponents (segments batch (energies x W1 b1 W2 b2 W3 b3)) (segments batch (speeds v))) (ix1 r)
      = logSumExp ((net W1 b1 W2 b2 W3 b3).weight (rows x) (rows v) r) := fun r => by
    rw [logSums_apply _ fun r k => by rw [hw]; exact Net.weight_lt_top _ h3 hb hv r k]
    exact congrArg logSumExp (funext fun k => hw r k)
  funext j
  obtain rfl : j = ix0 := funext fun a => a.elim0
  rw [mean_apply]
  simp only [hl]
  rfl

end Cert.ReferenceIdeal.Stages

end
-- ==== Proof.Pre.lean ====
/-
  What the precondition says: atom `n` belongs to configuration `n / 32`, and the velocities and the output weights
  are real numbers, and the output bias is below infinity.
-/
module

public import proofs.«01_k».proof.Pre_batch_in_blocks
public import proofs.«01_k».proof.Proof.Laws
public import Idealize.ShloMosaic.Lib.Affine
public import Idealize.ShloMosaic.Lib.Pointwise

@[expose] public section

noncomputable section

namespace Cert.Pre_batch_in_blocks

open Cert.Loss Idealize.ShloMosaic

/-- The predicate's shape relations hold. -/
instance facts : Cert.Pre_batch_in_blocks.Facts where
  shapeCasts_S131072_S4096x32 := by decide
  bcast_S_S131072x3 := by decide
  bcast_S_S64x1 := by decide
  bcast_S_S1 := by decide

variable {x v : FVec Ideal S131072x3 .f32} {batch : IVec S131072 32} {reactions : IVec S128 32} {W1 : FVec Ideal S3x64 .f32}
  {b1 : FVec Ideal S64 .f32} {W2 : FVec Ideal S64x64 .f32} {b2 : FVec Ideal S64 .f32} {W3 : FVec Ideal S64x1 .f32}
  {b3 : FVec Ideal S1 .f32}

/-- A comparison whose word is one holds. -/
theorem lt_of_olt {y z : EReal} (e : BitVec.ofBool (decide (y < z)) = 1) : y < z := by
  by_contra n
  rw [decide_eq_false n] at e
  exact absurd e (by decide)

/-- A value whose magnitude compares below infinity is a real number. -/
theorem isReal_of_olt {y : EReal} (e : BitVec.ofBool (decide (max y (-y) < Ideal.ofBits .f32 0x7F800000#32)) = 1) : IsReal y := by
  rw [ofBits_inf] at e
  exact isReal_of_abs_lt (lt_of_olt e)

/-- Atom `n`'s word is that of `n / 32`. -/
theorem batch_word (h : (fn x v batch reactions W1 b1 W2 b2 W3 b3).1 = fun _ => 1) (n : Fin 131072) :
    batch (ix1 n) = BitVec.ofNat 32 (n.val / 32) := by
  have e := congrFun h (ix2 (⟨n.val / 32, by omega⟩ : Fin 4096) (⟨n.val % 32, by omega⟩ : Fin 32))
  pointwise [fn] at e
  exact IntOp.cmpi_eq.1 e

/-- The velocities are real numbers. -/
theorem velocity_real (h : (fn x v batch reactions W1 b1 W2 b2 W3 b3).2.1 = fun _ => 1) (n : Fin 131072) (d : Fin 3) :
    IsReal (rows v n d) := by
  have e := congrFun h (ix2 n d)
  pointwise [fn] at e
  exact isReal_of_olt e

/-- The output weights are real numbers. -/
theorem weight_real (h : (fn x v batch reactions W1 b1 W2 b2 W3 b3).2.2.1 = fun _ => 1) (k : Fin 64) :
    IsReal ((net W1 b1 W2 b2 W3 b3).W3 k) := by
  have e := congrFun h (ix2 k 0)
  pointwise [fn] at e
  exact isReal_of_olt e

/-- The output bias is below infinity. -/
theorem bias_lt_top (h : (fn x v batch reactions W1 b1 W2 b2 W3 b3).2.2.2 = fun _ => 1) : (net W1 b1 W2 b2 W3 b3).b3 < ⊤ := by
  have e := congrFun h (ix1 0)
  pointwise [fn] at e
  rw [ofBits_inf] at e
  exact lt_of_olt e

end Cert.Pre_batch_in_blocks

end
-- ==== Proof.lean ====
/-
  The claim: the frames of the kernel and of the reference, and the equality of their results. The kernel's result
  (Proof/Array.lean) and the reference's term (Proof/Reference.lean) are the same formula (Proof/Spec.lean) of the arguments.
-/
module

public import proofs.«01_k».proof.Defs
public import proofs.«01_k».proof.Proof.Gen.Kernel.Frame
public import proofs.«01_k».proof.Proof.Array
public import proofs.«01_k».proof.Proof.Reference
public import proofs.«01_k».proof.Proof.Pre
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Loss

/-- The reference ends with its arguments unchanged and every semaphore counter at zero. -/
theorem reference_frame : Cert.quiescent_ReferenceIdeal := fun m ρ _ =>
  (θ_run _ _ _).mono (fun r h => ⟨fun c => (h c).2, sem_eq_zero_of_no_sems rfl r.2⟩) (Cert.ReferenceIdeal.Value.run m ρ)

/-- Under the precondition the kernel's result is the reference's result of the same arguments. -/
theorem results_eq (m : (ℓ : Loc Cert.KernelIdeal.nD Cert.KernelIdeal.τ Cert.KernelIdeal.sig) → Buf (Elt Ideal) ℓ)
    (h : Cert.Pre_KernelIdeal_batch_in_blocks m) (c : Dev Cert.KernelIdeal.nD) :
    Cert.ReferenceIdeal.Stages.mean (Cert.ReferenceIdeal.Stages.logSums (Cert.ReferenceIdeal.Stages.exponents
      (Cert.ReferenceIdeal.Stages.segments (m ((c.tc : Thread Cert.KernelIdeal.nD Cert.KernelIdeal.τ).loc Cert.KernelIdeal.main_arg2))
        (Cert.ReferenceIdeal.Stages.energies (m ((c.tc : Thread Cert.KernelIdeal.nD Cert.KernelIdeal.τ).loc Cert.KernelIdeal.main_arg0))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))))
      (Cert.ReferenceIdeal.Stages.segments (m ((c.tc : Thread Cert.KernelIdeal.nD Cert.KernelIdeal.τ).loc Cert.KernelIdeal.main_arg2))
        (Cert.ReferenceIdeal.Stages.speeds (m ((c.tc : Thread Cert.KernelIdeal.nD Cert.KernelIdeal.τ).loc Cert.KernelIdeal.main_arg1))))))
      = Pipeline.afterTail₀ Cert.KernelIdeal.cfgs (Cert.KernelIdeal.Gen.dats m) 0 (Cert.KernelIdeal.Gen.V0 m)
        [Cert.KernelIdeal.Gen.hostOps1] c Cert.KernelIdeal.main_v8 := by
  obtain ⟨hb, hv, h3, h9⟩ := h c
  refine (Cert.ReferenceIdeal.Stages.result _ _ _ _ _ _ _ _ _ (Cert.Pre_batch_in_blocks.batch_word hb)
    (Cert.Pre_batch_in_blocks.weight_real h3) (Cert.Pre_batch_in_blocks.bias_lt_top h9)
    (Cert.Pre_batch_in_blocks.velocity_real hv)).trans ?_
  exact (Cert.KernelIdeal.Array.result (Cert.Pre_batch_in_blocks.weight_real h3) (Cert.Pre_batch_in_blocks.bias_lt_top h9)
    (Cert.Pre_batch_in_blocks.velocity_real hv)).symm

/-- Kernel and reference end with the same result. -/
theorem results : Cert.algebraic_KernelIdeal_ReferenceIdeal_pre_batch_in_blocks := by
  pair_intro
  case refine_1 =>
    exact fun c => Pipeline.afterTail₀ Cert.KernelIdeal.cfgs (Cert.KernelIdeal.Gen.dats m) 0 (Cert.KernelIdeal.Gen.V0 m)
      [Cert.KernelIdeal.Gen.hostOps1] c Cert.KernelIdeal.main_v8
  · exact (θ_run _ _ _).mono (fun r h c => ⟨(h.2 c).2 Cert.KernelIdeal.main_v8 (by decide), h.1.1 c⟩)
      (θ_run_and (Cert.KernelIdeal.Gen.frame m g) (Cert.KernelIdeal.Gen.run_main m g))
  · refine (θ_run _ _ _).mono (fun r h c => ⟨(h c).1.trans ?_, (h c).2⟩) (Cert.ReferenceIdeal.Value.run m' g')
    obtain ⟨e0, e1, e2, e3, e4, e5, e6, e7, e8, e9⟩ := hagree c
    rw [Cert.ReferenceIdeal.Stages.stages, e0, e1, e2, e4, e5, e6, e7, e8, e9]
    exact results_eq m hpre c

/-- The whole claim: the programs' facts, the frames, that idealizing changes nothing, and the equal results. -/
theorem claim : Cert.Claim :=
  ⟨Cert.Kernel.Gen.facts, Cert.KernelIdeal.Gen.facts, Cert.ReferenceIdeal.Gen.facts, Cert.Pre_batch_in_blocks.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, results⟩

end Cert.Proof

end
